-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S2x1x384x384 : Shape := ⟨4, ![2, 1, 384, 384]⟩
abbrev S96x96x3x3 : Shape := ⟨4, ![96, 96, 3, 3]⟩
abbrev S96 : Shape := ⟨1, ![96]⟩
abbrev S2x384x384 : Shape := ⟨3, ![2, 384, 384]⟩
abbrev S3x3x96x96 : Shape := ⟨4, ![3, 3, 96, 96]⟩
abbrev S9x96x96 : Shape := ⟨3, ![9, 96, 96]⟩
abbrev S96x1 : Shape := ⟨2, ![96, 1]⟩
abbrev S1x96x32x384 : Shape := ⟨4, ![1, 96, 32, 384]⟩
abbrev S1x32x384 : Shape := ⟨3, ![1, 32, 384]⟩
abbrev S96x13056 : Shape := ⟨2, ![96, 13056]⟩
abbrev S96x32x384 : Shape := ⟨3, ![96, 32, 384]⟩
abbrev S96x12288 : Shape := ⟨2, ![96, 12288]⟩
abbrev S96x384 : Shape := ⟨2, ![96, 384]⟩
abbrev S1x13056 : Shape := ⟨2, ![1, 13056]⟩
abbrev S1x96x96 : Shape := ⟨3, ![1, 96, 96]⟩
abbrev S96x96 : Shape := ⟨2, ![96, 96]⟩
abbrev S32x384 : Shape := ⟨2, ![32, 384]⟩
abbrev S1x12288 : Shape := ⟨2, ![1, 12288]⟩

abbrev nBuf : Space → Nat
  | .hbm => 10
  | .vmem => 9
  | .smem => 0
  | _ => 0

abbrev bufTy : (tb : Table) → Fin (tcTables nBuf tb) → BufTy
  | .hbm, ⟨0, _⟩ => ⟨S2x96x384x384, .f32⟩
  | .hbm, ⟨1, _⟩ => ⟨S2x1x384x384, .i32⟩
  | .hbm, ⟨2, _⟩ => ⟨S96x96x3x3, .f32⟩
  | .hbm, ⟨3, _⟩ => ⟨S96, .f32⟩
  | .hbm, ⟨4, _⟩ => ⟨S2x384x384, .i32⟩
  | .hbm, ⟨5, _⟩ => ⟨S3x3x96x96, .f32⟩
  | .hbm, ⟨6, _⟩ => ⟨S9x96x96, .f32⟩
  | .hbm, ⟨7, _⟩ => ⟨S9x96x96, .bf16⟩
  | .hbm, ⟨8, _⟩ => ⟨S96x1, .f32⟩
  | .hbm, ⟨9, _⟩ => ⟨S2x96x384x384, .f32⟩
  | .local _ .vmem, ⟨0, _⟩ => ⟨S9x96x96, .bf16⟩
  | .local _ .vmem, ⟨1, _⟩ => ⟨S96x1, .f32⟩
  | .local _ .vmem, ⟨2, _⟩ => ⟨S1x96x32x384, .f32⟩
  | .local _ .vmem, ⟨3, _⟩ => ⟨S1x96x32x384, .f32⟩
  | .local _ .vmem, ⟨4, _⟩ => ⟨S1x32x384, .i32⟩
  | .local _ .vmem, ⟨5, _⟩ => ⟨S1x32x384, .i32⟩
  | .local _ .vmem, ⟨6, _⟩ => ⟨S1x96x32x384, .f32⟩
  | .local _ .vmem, ⟨7, _⟩ => ⟨S1x96x32x384, .f32⟩
  | .local _ .vmem, ⟨8, _⟩ => ⟨S96x13056, .bf16⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 13], ![false, false]⟩

def k0_cond3 (i : grid0.Coords) : BitVec 1 :=
  let arg1 : BitVec 32 := BitVec.ofNat 32 (i 1).val
  let c0_i32_5 : BitVec 32 := 0#32
  let v10 : BitVec 1 := Scalar.cmpi .ne arg1 c0_i32_5
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 1 → Memref sig .tc .vmem S9x96x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x32x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x32x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x96x384x384 : Shape := ⟨4, ![2, 96, 384, 384]⟩
abbrev S2x1x384x384 : Shape := ⟨4, ![2, 1, 384, 384]⟩
abbrev S96x96x3x3 : Shape := ⟨4, ![96, 96, 3, 3]⟩
abbrev S96 : Shape := ⟨1, ![96]⟩
abbrev S_ : Shape := ⟨0, ![]⟩
abbrev S2x96x386x386 : Shape := ⟨4, ![2, 96, 386, 386]⟩
abbrev S96x2x384x384 : Shape := ⟨4, ![96, 2, 384, 384]⟩
abbrev S96x96x1x1 : Shape := ⟨4, ![96, 96, 1, 1]⟩
abbrev S96x96 : Shape := ⟨2, ![96, 96]⟩
abbrev S1x96x1x1 : Shape := ⟨4, ![1, 96, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x96x384x384, .f32⟩
  | .hbm, ⟨1, _⟩ => ⟨S2x1x384x384, .i32⟩
  | .hbm, ⟨2, _⟩ => ⟨S96x96x3x3, .f32⟩
  | .hbm, ⟨3, _⟩ => ⟨S96, .f32⟩
  | .hbm, ⟨4, _⟩ => ⟨S_, .i32⟩
  | .hbm, ⟨5, _⟩ => ⟨S_, .f32⟩
  | .hbm, ⟨6, _⟩ => ⟨S2x96x386x386, .f32⟩
  | .hbm, ⟨7, _⟩ => ⟨S_, .f32⟩
  | .hbm, ⟨8, _⟩ => ⟨S96x2x384x384, .f32⟩
  | .hbm, ⟨9, _⟩ => ⟨S96x96x1x1, .f32⟩
  | .hbm, ⟨10, _⟩ => ⟨S96x96, .f32⟩
  | .hbm, ⟨11, _⟩ => ⟨S2x96x384x384, .f32⟩
  | .hbm, ⟨12, _⟩ => ⟨S96x2x384x384, .f32⟩
  | .hbm, ⟨13, _⟩ => ⟨S96x2x384x384, .f32⟩
  | .hbm, ⟨14, _⟩ => ⟨S96x96x1x1, .f32⟩
  | .hbm, ⟨15, _⟩ => ⟨S96x96, .f32⟩
  | .hbm, ⟨16, _⟩ => ⟨S2x96x384x384, .f32⟩
  | .hbm, ⟨17, _⟩ => ⟨S96x2x384x384, .f32⟩
  | .hbm, ⟨18, _⟩ => ⟨S96x2x384x384, .f32⟩
  | .hbm, ⟨19, _⟩ => ⟨S96x96x1x1, .f32⟩
  | .hbm, ⟨20, _⟩ => ⟨S96x96, .f32⟩
  | .hbm, ⟨21, _⟩ => ⟨S2x96x384x384, .f32⟩
  | .hbm, ⟨22, _⟩ => ⟨S96x2x384x384, .f32⟩
  | .hbm, ⟨23, _⟩ => ⟨S96x2x384x384, .f32⟩
  | .hbm, ⟨24, _⟩ => ⟨S96x96x1x1, .f32⟩
  | .hbm, ⟨25, _⟩ => ⟨S96x96, .f32⟩
  | .hbm, ⟨26, _⟩ => ⟨S2x96x384x384, .f32⟩
  | .hbm, ⟨27, _⟩ => ⟨S96x2x384x384, .f32⟩
  | .hbm, ⟨28, _⟩ => ⟨S96x2x384x384, .f32⟩
  | .hbm, ⟨29, _⟩ => ⟨S96x96x1x1, .f32⟩
  | .hbm, ⟨30, _⟩ => ⟨S96x96, .f32⟩
  | .hbm, ⟨31, _⟩ => ⟨S2x96x384x384, .f32⟩
  | .hbm, ⟨32, _⟩ => ⟨S96x2x384x384, .f32⟩
  | .hbm, ⟨33, _⟩ => ⟨S96x2x384x384, .f32⟩
  | .hbm, ⟨34, _⟩ => ⟨S96x96x1x1, .f32⟩
  | .hbm, ⟨35, _⟩ => ⟨S96x96, .f32⟩
  | .hbm, ⟨36, _⟩ => ⟨S2x96x384x384, .f32⟩
  | .hbm, ⟨37, _⟩ => ⟨S96x2x384x384, .f32⟩
  | .hbm, ⟨38, _⟩ => ⟨S96x2x384x384, .f32⟩
  | .hbm, ⟨39, _⟩ => ⟨S96x96x1x1, .f32⟩
  | .hbm, ⟨40, _⟩ => ⟨S96x96, .f32⟩
  | .hbm, ⟨41, _⟩ => ⟨S2x96x384x384, .f32⟩
  | .hbm, ⟨42, _⟩ => ⟨S96x2x384x384, .f32⟩
  | .hbm, ⟨43, _⟩ => ⟨S96x2x384x384, .f32⟩
  | .hbm, ⟨44, _⟩ => ⟨S96x96x1x1, .f32⟩
  | .hbm, ⟨45, _⟩ => ⟨S96x96, .f32⟩
  | .hbm, ⟨46, _⟩ => ⟨S2x96x384x384, .f32⟩
  | .hbm, ⟨47, _⟩ => ⟨S96x2x384x384, .f32⟩
  | .hbm, ⟨48, _⟩ => ⟨S96x2x384x384, .f32⟩
  | .hbm, ⟨49, _⟩ => ⟨S96x96x1x1, .f32⟩
  | .hbm, ⟨50, _⟩ => ⟨S96x96, .f32⟩
  | .hbm, ⟨51, _⟩ => ⟨S2x96x384x384, .f32⟩
  | .hbm, ⟨52, _⟩ => ⟨S96x2x384x384, .f32⟩
  | .hbm, ⟨53, _⟩ => ⟨S96x2x384x384, .f32⟩
  | .hbm, ⟨54, _⟩ => ⟨S2x96x384x384, .f32⟩
  | .hbm, ⟨55, _⟩ => ⟨S1x96x1x1, .f32⟩
  | .hbm, ⟨56, _⟩ => ⟨S2x96x384x384, .f32⟩
  | .hbm, ⟨57, _⟩ => ⟨S2x96x384x384, .f32⟩
  | .hbm, ⟨58, _⟩ => ⟨S2x1x384x384, .f32⟩
  | .hbm, ⟨59, _⟩ => ⟨S2x96x384x384, .f32⟩
  | .hbm, ⟨60, _⟩ => ⟨S2x96x384x384, .f32⟩
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== Proof.Conv.lean ====
/-
  The masked 3×3 convolution as mathematics: the image with one ring of zeros around it, one tap's product summed over
  the input channels, the nine taps, and the result. No program is mentioned here.
-/
module

public import Idealize.ShloMosaic.Lib.Pointwise

@[expose] public section

noncomputable section

namespace Cert.Conv

open Idealize.ShloMosaic

/-- An image batch, `[batch, channel, row, column]`. -/
abbrev Img := (⟨4, ![2, 96, 384, 384]⟩ : Shape).Idx → EReal
/-- The filters, `[output channel, input channel, row tap, column tap]`. -/
abbrev Filt := (⟨4, ![96, 96, 3, 3]⟩ : Shape).Idx → EReal
/-- The mask, `[batch, 1, row, column]`, in words. -/
abbrev Mask := (⟨4, ![2, 1, 384, 384]⟩ : Shape).Idx → BitVec 32
/-- The bias, one number for each output channel. -/
abbrev Bias := (⟨1, ![96]⟩ : Shape).Idx → EReal

/-- The image with a ring of zeros around it, at padded row `h` and padded column `w`: inside, the image one row up and
    one column to the left; outside, zero. -/
def padded (X : Img) (b : Fin 2) (c : Fin 96) (h w : ℕ) : EReal :=
  if hw : (1 ≤ h ∧ h < 385) ∧ (1 ≤ w ∧ w < 385) then X (ix4 b c ⟨h - 1, by omega⟩ ⟨w - 1, by omega⟩) else 0

/-- Inside the ring the padded image is the image, one row up and one column to the left. -/
theorem padded_inside (X : Img) (b : Fin 2) (c : Fin 96) (h w : ℕ) (p q : Fin 384) (hp : h = p.val + 1) (hq : w = q.val + 1) :
    padded X b c h w = X (ix4 b c p q) := by
  subst hp hq
  have hp := p.isLt
  have hq := q.isLt
  unfold padded
  rw [dif_pos (by omega)]
  rfl

/-- On the ring and beyond it the padded image is zero. -/
theorem padded_outside (X : Img) (b : Fin 2) (c : Fin 96) (h w : ℕ) (ho : h = 0 ∨ 385 ≤ h ∨ w = 0 ∨ 385 ≤ w) :
    padded X b c h w = 0 := by
  unfold padded
  rw [dif_neg (by omega)]

/-- One tap: the filter's entry at `(ky, kx)` times the padded image at the shifted place, summed over the channels. -/
def tap (X : Img) (Wt : Filt) (b : Fin 2) (o : Fin 96) (h w : ℕ) (ky kx : Fin 3) : EReal :=
  ∑ c : Fin 96, Wt (ix4 o c ky kx) * padded X b c (h + ky.val) (w + kx.val)

/-- The nine taps, added row by row. -/
def conv (X : Img) (Wt : Filt) (b : Fin 2) (o : Fin 96) (h w : ℕ) : EReal :=
  tap X Wt b o h w 0 0 + tap X Wt b o h w 0 1 + tap X Wt b o h w 0 2
    + tap X Wt b o h w 1 0 + tap X Wt b o h w 1 1 + tap X Wt b o h w 1 2
    + tap X Wt b o h w 2 0 + tap X Wt b o h w 2 1 + tap X Wt b o h w 2 2

/-- The result: the convolution plus the bias, times the mask read as a number. -/
def masked (X : Img) (M : Mask) (Wt : Filt) (Bs : Bias) : Img := fun j =>
  (conv X Wt (j 0) (j 1) (j 2).val (j 3).val + Bs (ix1 (j 1)))
    * FloatOps.sitofp (F := Ideal) .f32 (M (ix4 (j 0) 0 (j 2) (j 3)))

end Cert.Conv

end
-- ==== Proof.Payload.lean ====
/-
  What the kernel's body computes at an index, from what it loaded: the two masked rotations of the strip of rows, and the
  block of results written from the strip, the filters, the bias and the mask.
-/
module

public import proofs.«01_k».proof.Proof.Gen.KernelIdeal.Skeleton
public import proofs.«01_k».proof.Proof.Conv
public import Idealize.ShloMosaic.Lib.Pointwise
public import Idealize.ShloMosaic.Lib.WordCmp
public import Idealize.ShloMosaic.Lib.Routing.Words
public import Idealize.ShloMosaic.Lib.Pipeline.ValueKit

@[expose] public section

set_option maxRecDepth 100000

noncomputable section

namespace Cert.Payload

open Idealize.ShloMosaic Cert.KernelIdeal Cert.KernelIdeal.Gen Cert.Conv

/-! ## The column index -/

/-- The remainder's correction for negative operands leaves a remainder by 384 alone. -/
theorem fix_rem : ∀ r : Fin 384,
    Scalar.select
      (IntOp.andi
        (IntOp.xori (IntOp.cmpi .slt (BitVec.ofNat 32 r.val) 0#32) (Scalar.cmpi .slt 384#32 0#32))
        (IntOp.cmpi .ne (BitVec.ofNat 32 r.val) 0#32))
      (IntOp.addi (BitVec.ofNat 32 r.val) 384#32) (BitVec.ofNat 32 r.val) = BitVec.ofNat 32 r.val := by
  decide +kernel

/-- The kernel's column index of a position of the strip is the position modulo 384. -/
theorem pay8_apply (q : Fin 13056) : k0_pay8 (ix2 0 q) = BitVec.ofNat 32 (q.val % 384) := by
  have hq := q.isLt
  have hd : Scalar.select (Scalar.cmpi .eq 384#32 0#32) 1#32 384#32 = 384#32 := by decide
  pointwise [k0_pay8]
  rw [hd, Routing.remsi_word .vector (by omega) (by decide) (by decide)]
  exact fix_rem ⟨q.val % 384, by omega⟩

/-- A choice by whether the column index is a constant. -/
theorem select_column {α : Type} (n k : ℕ) (hn : n < 384) (hk : k < 384) (x y : α) :
    Scalar.select (IntOp.cmpi .eq (BitVec.ofNat 32 n) (BitVec.ofNat 32 k)) x y = if n = k then x else y := by
  word_cmp

/-! ## The strip and its two rotations -/

/-- The columns a grid point reads: 34 padded rows of channel `c` from padded row `32 i` on, each without its first and
    last padded column. -/
def strip (X : Img) (b : Fin 2) (i : ℕ) : S96x13056.Idx → EReal := fun y =>
  padded X b (y 0) (32 * i + (y 1).val / 384) ((y 1).val % 384 + 1)

/-- The strip at an index with its coordinates written out. -/
theorem strip_apply (X : Img) (b : Fin 2) (i : ℕ) (c : Fin 96) (q : Fin 13056) :
    strip X b i (ix2 c q) = padded X b c (32 * i + q.val / 384) (q.val % 384 + 1) := rfl

/-- The strip rotated to the right, its last column zeroed first: every position holds its left neighbour. -/
theorem pay9_strip (X : Img) (b : Fin 2) (i : ℕ) (c : Fin 96) (q : Fin 13056) :
    k0_pay9 (F := Ideal) (strip X b i) (ix2 c q) = padded X b c (32 * i + q.val / 384) (q.val % 384) := by
  have hq := q.isLt
  pointwise [k0_pay9]
  rw [pay8_apply, strip_apply, select_column _ 383 (Nat.mod_lt _ (by decide)) (by decide)]
  dsimp only
  by_cases h : q.val % 384 = 0
  · rw [if_pos (by omega), padded_outside _ _ _ _ _ (by omega)]
  · rw [if_neg (by omega)]
    exact congrArg₂ (padded X b c) (by omega) (by omega)

/-- The strip rotated to the left, its first column zeroed first: every position holds its right neighbour. -/
theorem pay10_strip (X : Img) (b : Fin 2) (i : ℕ) (c : Fin 96) (q : Fin 13056) :
    k0_pay10 (F := Ideal) (strip X b i) (ix2 c q) = padded X b c (32 * i + q.val / 384) (q.val % 384 + 2) := by
  have hq := q.isLt
  pointwise [k0_pay10]
  rw [pay8_apply, strip_apply, select_column _ 0 (Nat.mod_lt _ (by decide)) (by decide)]
  dsimp only
  by_cases h : q.val % 384 = 383
  · rw [if_pos (by omega), padded_outside _ _ _ _ _ (by omega)]
  · rw [if_neg (by omega)]
    exact congrArg₂ (padded X b c) (by omega) (by omega)

/-! ## The block of results -/

/-- The block a grid point writes, from the filters, the bias, the mask and the strip it loaded. -/
def block (wts : Vec Ideal S9x96x96 .bf16) (bs : Vec Ideal S96x1 .f32) (msk : Vec Ideal S1x32x384 .i32)
    (v : Vec Ideal S96x13056 .bf16) : Vec Ideal S1x96x32x384 .f32 :=
  k0_pay4 (F := Ideal) (k0_pay10 v)
    (k0_pay12 v (k0_pay9 v) (k0_pay10 v)
      (k0_pay11 v (View.ld wts (Rect.unit ![0, 0, 0] ![1, 96, 96] inb_S9x96x96_S1x96x96_0_0_0)))
      (View.ld wts (Rect.unit ![1, 0, 0] ![1, 96, 96] inb_S9x96x96_S1x96x96_1_0_0))
      (View.ld wts (Rect.unit ![2, 0, 0] ![1, 96, 96] inb_S9x96x96_S1x96x96_2_0_0))
      (View.ld wts (Rect.unit ![3, 0, 0] ![1, 96, 96] inb_S9x96x96_S1x96x96_3_0_0))
      (View.ld wts (Rect.unit ![4, 0, 0] ![1, 96, 96] inb_S9x96x96_S1x96x96_4_0_0))
      (View.ld wts (Rect.unit ![5, 0, 0] ![1, 96, 96] inb_S9x96x96_S1x96x96_5_0_0))
      (View.ld wts (Rect.unit ![6, 0, 0] ![1, 96, 96] inb_S9x96x96_S1x96x96_6_0_0))
      (View.ld wts (Rect.unit ![7, 0, 0] ![1, 96, 96] inb_S9x96x96_S1x96x96_7_0_0)))
    (View.ld wts (Rect.unit ![8, 0, 0] ![1, 96, 96] inb_S9x96x96_S1x96x96_8_0_0)) msk bs

/-- One product of the block is one tap of the convolution: slab `t` of the filters against a rotation of the strip `kx`
    columns along, read `ky` rows down. -/
theorem tap_of_strip (X : Img) (Wt : Filt) (b : Fin 2) (i : ℕ) (o : Fin 96) (h : Fin 32) (w : Fin 384) (ky kx : Fin 3)
    (wts : Vec Ideal S9x96x96 .bf16) (t : Fin 9) (hw : ∀ c, wts (ix3 t o c) = Wt (ix4 o c ky kx))
    (f : S96x13056.Idx → EReal)
    (hf : ∀ c q, f (ix2 c q) = padded X b c (32 * i + q.val / 384) (q.val % 384 + kx.val))
    (q : Fin 13056) (hq : q.val = ky.val * 384 + (h.val * 384 + w.val)) :
    ∑ c : Fin 96, wts (ix3 t o c) * f (ix2 c q) = tap X Wt b o (32 * i + h.val) w.val ky kx := by
  have hh := w.isLt
  refine Finset.sum_congr rfl fun c _ => ?_
  rw [hw, hf]
  exact congrArg _ (congrArg₂ (padded X b c) (by omega) (by omega))

/-- The block written from a strip, at an index: the masked convolution at row `32 i + h`. -/
theorem block_apply (X : Img) (Wt : Filt) (b : Fin 2) (i : ℕ) (wts : Vec Ideal S9x96x96 .bf16) (bs : Vec Ideal S96x1 .f32)
    (msk : Vec Ideal S1x32x384 .i32)
    (hw : ∀ (ky kx : Fin 3) (o c : Fin 96), wts (ix3 ⟨ky.val * 3 + kx.val, by omega⟩ o c) = Wt (ix4 o c ky kx))
    (o : Fin 96) (h : Fin 32) (w : Fin 384) :
    block wts bs msk (strip X b i) (ix4 0 o h w)
      = (conv X Wt b o (32 * i + h.val) w.val + bs (ix2 o 0)) * FloatOps.sitofp (F := Ideal) .f32 (msk (ix3 0 h w)) := by
  have tapOf := fun ky kx f hf q hq =>
    tap_of_strip X Wt b i o h w ky kx wts ⟨ky.val * 3 + kx.val, by omega⟩ (hw ky kx o) f hf q hq
  pointwise [block, k0_pay4, k0_pay12, k0_pay11, View.ld_apply]
  unfold conv
  rw [← tapOf 0 0 _ (pay9_strip X b i) ⟨h.val * 384 + w.val, by omega⟩ (by simp),
    ← tapOf 0 1 _ (strip_apply X b i) ⟨h.val * 384 + w.val, by omega⟩ (by simp),
    ← tapOf 0 2 _ (pay10_strip X b i) ⟨h.val * 384 + w.val, by omega⟩ (by simp),
    ← tapOf 1 0 _ (pay9_strip X b i) ⟨384 + (h.val * 384 + w.val), by omega⟩ (by simp),
    ← tapOf 1 1 _ (strip_apply X b i) ⟨384 + (h.val * 384 + w.val), by omega⟩ (by simp),
    ← tapOf 1 2 _ (pay10_strip X b i) ⟨384 + (h.val * 384 + w.val), by omega⟩ (by simp),
    ← tapOf 2 0 _ (pay9_strip X b i) ⟨768 + (h.val * 384 + w.val), by omega⟩ (by simp),
    ← tapOf 2 1 _ (strip_apply X b i) ⟨768 + (h.val * 384 + w.val), by omega⟩ (by simp),
    ← tapOf 2 2 _ (pay10_strip X b i) ⟨768 + (h.val * 384 + w.val), by omega⟩ (by simp)]
  rfl

end Cert.Payload
end
-- ==== Proof.Blocks.lean ====
/-
  The kernel's input blocks at an index: what each grid point finds in its windows, in terms of the arguments.
-/
module

public import proofs.«01_k».proof.Proof.Gen.KernelIdeal.Value
public import proofs.«01_k».proof.Proof.Payload
public import Idealize.ShloMosaic.Lib.Pipeline.ValueKit
public import Idealize.ShloMosaic.Lib.Claim

@[expose] public section

set_option maxRecDepth 100000

noncomputable section

namespace Cert.KernelIdeal.ConvValue

open Idealize.ShloMosaic Idealize.ShloMosaic.TcCoe Cert.KernelIdeal Cert.KernelIdeal.Gen Cert.Conv Cert.Payload

variable (m : (ℓ : Loc nD τ sig) → Buf (Elt Ideal) ℓ)

/-- The image the kernel is given. -/
abbrev argX (c : Dev nD) : Img := m ((c : Thread nD τ).loc main_arg0)
/-- The mask the kernel is given. -/
abbrev argM (c : Dev nD) : Mask := m ((c : Thread nD τ).loc main_arg1)
/-- The filters the kernel is given. -/
abbrev argW (c : Dev nD) : Filt := m ((c : Thread nD τ).loc main_arg2)
/-- The bias the kernel is given. -/
abbrev argB (c : Dev nD) : Bias := m ((c : Thread nD τ).loc main_arg3)

/-- The batch of a grid point. -/
def bat (t : Fin cfg0.N) : Fin 2 := ⟨t.val / 13, by have := t.isLt.trans_eq (show cfg0.N = 26 from N_0); omega⟩

/-- Every grid point has all the filters. -/
theorem index_filters : ∀ t : Fin cfg0.N, win0_0.index t = ![0, 0, 0] := (by decide +kernel : ∀ t : Fin grid0.N, _)
/-- Every grid point has the whole bias. -/
theorem index_bias : ∀ t : Fin cfg0.N, win0_1.index t = ![0, 0] := (by decide +kernel : ∀ t : Fin grid0.N, _)
/-- A grid point has the image block of its number; the last point of a batch has the last block again. -/
theorem index_image : ∀ t : Fin cfg0.N, win0_2.index t = ![t.val / 13, 0, min (t.val % 13) 11, 0] :=
  (by decide +kernel : ∀ t : Fin grid0.N, _)
/-- A grid point has the mask block of the number before its own; the first point of a batch has the first block. -/
theorem index_mask : ∀ t : Fin cfg0.N, win0_3.index t = ![t.val / 13, t.val % 13 - 1, 0] :=
  (by decide +kernel : ∀ t : Fin grid0.N, _)
/-- A grid point's output block is the one of the number before its own; the first point of a batch has the first block. -/
theorem index_out : ∀ t : Fin cfg0.N, win0_4.index t = ![t.val / 13, 0, t.val % 13 - 1, 0] :=
  (by decide +kernel : ∀ t : Fin grid0.N, _)

/-- The filters as the kernel gets them, taps first: tap `3 ky + kx` is the filters' entry at `(ky, kx)`. -/
theorem filters_entry (c : Dev nD) (ky kx : Fin 3) (o c' : Fin 96) :
    V m c main_call0_v3 (ix3 ⟨ky.val * 3 + kx.val, by omega⟩ o c') = argW m c (ix4 o c' ky kx) := by
  entry_read
  show shapeCast S9x96x96 (transpose S3x3x96x96 [2, 3, 0, 1] (argW m c) transposes_S96x96x3x3_S3x3x96x96_2_3_0_1) _ _ = _
  pointwise

/-- A grid point's filter block, at an index, in terms of the filters given. -/
theorem filters_apply (c : Dev nD) (t : Fin cfg0.N) (ky kx : Fin 3) (o c' : Fin 96) :
    iblk m c 0 t (ix3 ⟨ky.val * 3 + kx.val, by omega⟩ o c') = argW m c (ix4 o c' ky kx) := by
  refine Eq.trans ?_ (filters_entry m c ky kx o c')
  blk_simp [iblk]
  blk_ext [index_filters]

/-- A grid point's bias block, at an index, in terms of the bias given. -/
theorem bias_apply (c : Dev nD) (t : Fin cfg0.N) (o : Fin 96) :
    iblk m c 1 t (ix2 o 0) = argB m c (ix1 o) := by
  refine Eq.trans (b := V m c main_call0_v4 (ix2 o 0)) ?_ ?_
  · blk_simp [iblk]
    blk_ext [index_bias]
  · entry_read
    pointwise

/-- A grid point's mask block, at an index: the mask given, at the row the block's row stands for. -/
theorem mask_apply (c : Dev nD) (t : Fin cfg0.N) (h : Fin 32) (w p : Fin 384) (hp : p.val = 32 * (t.val % 13 - 1) + h.val) :
    iblk m c 3 t (ix3 0 h w) = argM m c (ix4 (bat t) 0 p w) := by
  refine Eq.trans (b := V m c main_call0_v0 (ix3 (bat t) p w)) ?_ ?_
  · blk_simp [iblk]
    blk_ext [index_mask, hp, bat]
  · entry_read
    pointwise

/-- A grid point's image block, at an index: the image given, at the row the block's row stands for. -/
theorem image_apply (c : Dev nD) (t : Fin cfg0.N) (c' : Fin 96) (h : Fin 32) (w p : Fin 384)
    (hp : p.val = 32 * min (t.val % 13) 11 + h.val) :
    iblk m c 2 t (ix4 0 c' h w) = argX m c (ix4 (bat t) c' p w) := by
  refine Eq.trans (b := V m c main_arg0 (ix4 (bat t) c' p w)) ?_ ?_
  · blk_simp [iblk]
    blk_ext [index_image, hp, bat]
  · entry_read
    rfl

end Cert.KernelIdeal.ConvValue
end
-- ==== Proof.Scratch.lean ====
/-
  The scratch the kernel carries from one grid point to the next: what its stores leave in it, and the strip of rows a
  point loads from it after storing the strip's last row.
-/
module

public import proofs.«01_k».proof.Proof.Payload
public import Idealize.ShloMosaic.Lib.WritesUnit
public import Idealize.ShloMosaic.Lib.Pipeline.ReadBack
public import Idealize.ShloMosaic.Lib.Pipeline.CanonAppend

@[expose] public section

set_option maxRecDepth 100000

noncomputable section

namespace Cert.Payload

open Idealize.ShloMosaic Cert.KernelIdeal Cert.KernelIdeal.Gen Cert.Conv

/-- A block of 32 image rows, from image row `32 i` on. -/
def IsRows (X : Img) (b : Fin 2) (i : ℕ) (x : Vec Ideal S1x96x32x384 .f32) : Prop :=
  ∀ (c : Fin 96) (h : Fin 32) (w p : Fin 384), p.val = 32 * i + h.val → x (ix4 0 c h w) = X (ix4 b c p w)

/-- A scratch whose first 33 rows are those of the strip at padded row `32 i`. -/
def Holds (X : Img) (b : Fin 2) (i : ℕ) (s : Vec Ideal S96x13056 .bf16) : Prop :=
  ∀ (c : Fin 96) (q : Fin 13056), q.val < 12672 → s (ix2 c q) = strip X b i (ix2 c q)

/-- The image block flattened, at an index: the padded image one row down and one column along. -/
theorem pay7_apply (X : Img) (b : Fin 2) (i : ℕ) (hi : i ≤ 11) (x : Vec Ideal S1x96x32x384 .f32) (hx : IsRows X b i x)
    (c : Fin 96) (q : Fin 12288) :
    k0_pay7 (F := Ideal) x (ix2 c q) = padded X b c (32 * i + q.val / 384 + 1) (q.val % 384 + 1) := by
  have hq := q.isLt
  pointwise [k0_pay7, k0_pay1]
  rw [hx c _ _ ⟨32 * i + q.val / 384, by omega⟩ rfl]
  exact (padded_inside X b c _ _ ⟨32 * i + q.val / 384, by omega⟩ ⟨q.val % 384, by omega⟩ rfl rfl).symm

/-- The image block's first row: the last row of the strip before. -/
theorem pay2_apply (X : Img) (b : Fin 2) (i : ℕ) (hi : i ≤ 11) (x : Vec Ideal S1x96x32x384 .f32) (hx : IsRows X b i x)
    (c : Fin 96) (q : Fin 384) :
    k0_pay2 (F := Ideal) x (ix2 c q) = padded X b c (32 * i + 1) (q.val + 1) := by
  have hq := q.isLt
  pointwise [k0_pay2, k0_pay1]
  rw [hx c _ _ ⟨32 * i, by omega⟩ (by dsimp only; omega)]
  exact (padded_inside X b c _ _ ⟨32 * i, by omega⟩ ⟨q.val % 384, by omega⟩ rfl (by dsimp only; omega)).symm

/-- The last row stored at a batch's last point is zero. -/
theorem pay3_apply (c : Fin 96) (q : Fin 384) : k0_pay3 (F := Ideal) (ix2 c q) = 0 := by
  pointwise [k0_pay3]

/-- The first row stored at a batch's first point is zero. -/
theorem pay5_apply (c : Fin 96) (q : Fin 384) : k0_pay5 (F := Ideal) (ix2 c q) = 0 := by
  pointwise [k0_pay5]

/-- The row carried over is the 33rd row of what the point before left. -/
theorem pay6_apply (s : Vec Ideal S96x13056 .bf16) (c : Fin 96) (q : Fin 384) :
    k0_pay6 (F := Ideal) (View.ld s (Rect.unit ![0, 12288] ![96, 384] inb_S96x13056_S96x384_0_12288)) (ix2 c q)
      = s (ix2 c ⟨12288 + q.val, by omega⟩) := by
  pointwise [k0_pay6, View.ld_apply]

/-- The strip through a rectangle of whole columns, from column `off` on. -/
theorem strip_columns (X : Img) (b : Fin 2) (i off n : ℕ) (inb) (c : Fin 96) (q : Fin n) :
    strip X b i ((Rect.unit (s := S96x13056) ![0, off] ![96, n] inb).emb (ix2 c q))
      = padded X b c (32 * i + (off + q.val) / 384) ((off + q.val) % 384 + 1) := by
  have h0 : (Rect.unit (s := S96x13056) ![0, off] ![96, n] inb).emb (ix2 c q) 0 = c :=
    Fin.ext (show 0 + 1 * c.val = c.val by omega)
  have h1 : ((Rect.unit (s := S96x13056) ![0, off] ![96, n] inb).emb (ix2 c q) 1).val = off + q.val :=
    show off + 1 * q.val = off + q.val by omega
  unfold strip
  rw [h0, h1]

/-- An index lies in a rectangle of whole columns when its column does. -/
theorem columns_mem (c : Fin 96) (q : Fin 13056) (off n : ℕ) (h1 : off ≤ q.val) (h2 : q.val < off + n) :
    ∀ a : Fin S96x13056.rank, ![0, off] a ≤ (ix2 c q a).val ∧ (ix2 c q a).val < ![0, off] a + ![96, n] a :=
  Fin.forall_fin_two.mpr ⟨⟨Nat.zero_le _, by simp⟩, ⟨h1, h2⟩⟩

/-- After a point's stores the scratch holds the strip at padded row `32 i`, if the first row stored is the strip's: the
    32 rows after it are the image block's. -/
theorem holds_stored (X : Img) (b : Fin 2) (i : ℕ) (hi : i ≤ 11) (x : Vec Ideal S1x96x32x384 .f32) (hx : IsRows X b i x)
    (first last : Vec Ideal S96x384 .bf16)
    (hf : ∀ (c : Fin 96) (q : Fin 384), first (ix2 c q) = padded X b c (32 * i) (q.val + 1)) :
    Holds X b i (View.canon
      [⟨Rect.unit (s := S96x13056) ![0, 384] ![96, 12288] inb_S96x13056_S96x12288_0_384, k0_pay7 (F := Ideal) x⟩,
        ⟨Rect.unit (s := S96x13056) ![0, 0] ![96, 384] inb_S96x13056_S96x384_0_0, first⟩,
        ⟨Rect.unit (s := S96x13056) ![0, 12672] ![96, 384] inb_S96x13056_S96x384_0_12672, last⟩]) := by
  intro c q hq
  refine View.canon_append_of_pieces (strip X b i)
    [⟨Rect.unit (s := S96x13056) ![0, 12672] ![96, 384] inb_S96x13056_S96x384_0_12672, last⟩]
    [⟨Rect.unit (s := S96x13056) ![0, 384] ![96, 12288] inb_S96x13056_S96x12288_0_384, k0_pay7 (F := Ideal) x⟩,
        ⟨Rect.unit (s := S96x13056) ![0, 0] ![96, 384] inb_S96x13056_S96x384_0_0, first⟩] ?_ (ix2 c q) ?_
  · intro p hp y
    simp only [List.mem_cons, List.not_mem_nil, or_false] at hp
    rcases hp with rfl | rfl
    · idx_vars y
      refine ((pay7_apply X b i hi x hx y0 y1).trans ?_).trans (strip_columns X b i 384 12288 _ y0 y1).symm
      exact congrArg₂ (padded X b y0) (by omega) (by omega)
    · idx_vars y
      refine ((hf y0 y1).trans ?_).trans (strip_columns X b i 0 384 _ y0 y1).symm
      exact congrArg₂ (padded X b y0) (by omega) (by omega)
  · by_cases h : q.val < 384
    · refine ⟨_, List.mem_cons_of_mem _ List.mem_cons_self, ?_⟩
      rw [Rect.mem_set_unit]
      exact columns_mem c q _ _ (by omega) (by omega)
    · refine ⟨_, List.mem_cons_self, ?_⟩
      rw [Rect.mem_set_unit]
      exact columns_mem c q _ _ (by omega) (by omega)

/-- A point's load, after it stored a last row over what the point before left: the strip of the point before. -/
theorem load_strip (X : Img) (b : Fin 2) (i : ℕ) (s : Vec Ideal S96x13056 .bf16) (hs : Holds X b i s)
    (last : Vec Ideal S96x384 .bf16)
    (hl : ∀ (c : Fin 96) (q : Fin 384), last (ix2 c q) = padded X b c (32 * i + 33) (q.val + 1))
    (h : (Memref.whole cc0_scratch0).IsWhole) :
    View.read (Elt Ideal) (View.whole cc0_scratch0)
      ((View.whole cc0_scratch0).writes (Elt Ideal) (h.unread s)
        [⟨Rect.unit (s := S96x13056) ![0, 12672] ![96, 384] inb_S96x13056_S96x384_0_12672, last⟩]) = strip X b i := by
  funext y
  idx_vars y
  by_cases hq : y1.val < 12672
  · rw [View.read_writes_cons_unit_of_not_mem _ _ _ _ _ _ rfl 1 (.inl hq)]
    exact (congrFun (h.read_unread s) _).trans (hs y0 y1 hq)
  · rw [View.read_writes_cons_unit_of_mem _ _ _ _ _ _ (ix2 y0 ⟨y1.val - 12672, by omega⟩) rfl
      (Fin.forall_fin_two.mpr ⟨by simp, by simp; omega⟩), hl, strip_apply]
    exact congrArg₂ (padded X b y0) (by omega) (by show y1.val - 12672 + 1 = y1.val % 384 + 1; omega)

end Cert.Payload
end
-- ==== Proof.KernelValue.lean ====
/-
  The kernel's result: the scratch after every grid point, the block every point writes, and the whole array.
-/
module

public import proofs.«01_k».proof.Proof.Blocks
public import proofs.«01_k».proof.Proof.Scratch

@[expose] public section

set_option maxRecDepth 100000

noncomputable section

namespace Cert.KernelIdeal.ConvValue

open Idealize.ShloMosaic Idealize.ShloMosaic.TcCoe Cert.KernelIdeal Cert.KernelIdeal.Gen Cert.Conv Cert.Payload

variable (m : (ℓ : Loc nD τ sig) → Buf (Elt Ideal) ℓ)

/-- The image block of a point that still has one is the 32 rows of its number. -/
theorem rows_image (c : Dev nD) (t : Fin cfg0.N) (h : t.val % 13 ≤ 11) :
    IsRows (argX m c) (bat t) (t.val % 13) (iblk m c 2 t) := fun c' h' w p hp =>
  image_apply m c t c' h' w p (by rw [hp, min_eq_left h])

/-- A point's predecessor. -/
abbrev pred (t : Fin cfg0.N) : Fin cfg0.N := ⟨t.val - 1, Nat.lt_of_le_of_lt (Nat.sub_le _ _) t.isLt⟩

/-- What a point's predecessor holds, in the point's own batch and number: same batch, one number less. -/
theorem holds_pred {X : Img} {s : Vec Ideal S96x13056 .bf16} (t : Fin cfg0.N) (h : ¬t.val % 13 = 0)
    (hs : Holds X (bat (pred t)) ((pred t).val % 13) s) : Holds X (bat t) (t.val % 13 - 1) s := by
  have hb : bat (pred t) = bat t := Fin.ext (show (t.val - 1) / 13 = t.val / 13 by omega)
  have hi : (pred t).val % 13 = t.val % 13 - 1 := show (t.val - 1) % 13 = t.val % 13 - 1 by omega
  rwa [hb, hi] at hs

/-- After a point that has an image block, the scratch holds the strip from padded row `32 i`, `i` the point's number in
    its batch. -/
theorem scratch_holds (c : Dev nD) : ∀ (n : ℕ) (t : Fin cfg0.N), t.val = n → t.val % 13 ≤ 11 →
    Holds (argX m c) (bat t) (t.val % 13) (outsAt0 m c t.val t.isLt).2 := by
  intro n
  induction n using Nat.strong_induction_on with
  | _ n ih =>
    intro t hn h
    by_cases h3 : t.val % 13 = 0
    · rw [outsAt0_A m c t h (by omega) (by omega) h3 (by omega) h]
      dsimp only
      frame_out
      refine holds_stored _ _ _ h _ (rows_image m c t h) _ _ fun c' q => ?_
      rw [pay5_apply, padded_outside _ _ _ _ _ (by omega)]
    · have hp := holds_pred t h3 (ih (t.val - 1) (by omega) (pred t) rfl (show (t.val - 1) % 13 ≤ 11 by omega))
      rw [outsAt0_B m c t h (by omega) (by omega) h3 (by omega) h]
      dsimp only
      frame_out
      rw [read_unread_whole]
      refine holds_stored _ _ _ h _ (rows_image m c t h) _ _ fun c' q => ?_
      rw [pay6_apply, hp c' _ (by show 12288 + q.val < 12672; omega), strip_apply]
      exact congrArg₂ (padded (argX m c) (bat t) c')
        (show 32 * (t.val % 13 - 1) + (12288 + q.val) / 384 = _ by omega) (show (12288 + q.val) % 384 + 1 = _ by omega)

/-- The scratch a point finds, if it is not its batch's first: the strip of the point before. -/
theorem scratch_found (c : Dev nD) (t : Fin cfg0.N) (h : ¬t.val % 13 = 0) :
    Holds (argX m c) (bat t) (t.val % 13 - 1) (outsAt0 m c (pred t).val (pred t).isLt).2 :=
  holds_pred t h (scratch_holds m c _ (pred t) rfl (show (t.val - 1) % 13 ≤ 11 by omega))

/-- The block a point leaves in its output window, if it is not its batch's first. -/
theorem out_block (c : Dev nD) (t : Fin cfg0.N) (h : ¬t.val % 13 = 0) :
    (outsAt0 m c t.val t.isLt).1
      = block (iblk m c 0 t) (iblk m c 1 t) (iblk m c 3 t) (strip (argX m c) (bat t) (t.val % 13 - 1)) := by
  have hs := scratch_found m c t h
  by_cases h1 : t.val % 13 = 12
  · rw [outsAt0_C m c t (by omega) h1 (by omega) h (by omega) (by omega)]
    dsimp only
    frame_out
    refine congrArg (block _ _ _) (load_strip _ _ _ _ hs (k0_pay3 (F := Ideal)) (fun c' q => ?_) _)
    rw [pay3_apply, padded_outside _ _ _ _ _ (by omega)]
  · rw [outsAt0_B m c t (by omega) h1 (by omega) h (by omega) (by omega)]
    dsimp only
    frame_out
    refine congrArg (block _ _ _) (load_strip _ _ _ _ hs (k0_pay2 (F := Ideal) (iblk m c 2 t)) (fun c' q => ?_) _)
    rw [pay2_apply _ _ _ (by omega) _ (rows_image m c t (by omega))]
    exact congrArg₂ (padded (argX m c) (bat t) c') (by omega) rfl

/-- That block at an index: the masked convolution at the row it stands for. -/
theorem out_apply (c : Dev nD) (t : Fin cfg0.N) (h : ¬t.val % 13 = 0) (o : Fin 96) (h' : Fin 32) (w p : Fin 384)
    (hp : p.val = 32 * (t.val % 13 - 1) + h'.val) :
    (outsAt0 m c t.val t.isLt).1 (ix4 0 o h' w)
      = masked (argX m c) (argM m c) (argW m c) (argB m c) (ix4 (bat t) o p w) := by
  rw [out_block m c t h, block_apply _ (argW m c) _ _ _ _ _ (filters_apply m c t), bias_apply m c t,
    mask_apply m c t h' w p hp, ← hp]
  rfl

/-- A point that writes its block back is not its batch's first. -/
theorem flush_ne_first : ∀ t : Fin cfg0.N, (cfg0.win 4).flush t = true → ¬t.val % 13 = 0 :=
  (by decide +kernel : ∀ t : Fin grid0.N, win0_4.flush t = true → ¬t.val % 13 = 0)

/-- The array the kernel leaves is the masked convolution of its arguments. -/
theorem array_eq (c : Dev nD) :
    (dats m 0 c).arrAt 4 cfg0.N = masked (argX m c) (argM m c) (argW m c) (argB m c) := by
  refine (dats m 0 c).arrAt_eq_of_covers 4 _ (by decide +kernel) fun t hf y => ?_
  have hne := flush_ne_first t hf
  blk_simp
  rw [after0_4]
  idx_vars y
  obtain rfl : y0 = 0 := Subsingleton.elim _ _
  refine (out_apply m c t hne y1 y2 y3 ⟨32 * (t.val % 13 - 1) + y2.val, by omega⟩ rfl).trans
    (congrArg (masked (argX m c) (argM m c) (argW m c) (argB m c)) ?_)
  blk_ext [index_out, bat]

end Cert.KernelIdeal.ConvValue
end
-- ==== Proof.RefValue.lean ====
/-
  The reference's result: the masked convolution of its arguments.
-/
module

public import proofs.«01_k».proof.Proof.Gen.ReferenceIdeal.Read
public import proofs.«01_k».proof.Proof.Conv
public import Idealize.ShloMosaic.Lib.KernelVsHost

@[expose] public section

set_option maxRecDepth 100000

noncomputable section

namespace Cert.ReferenceIdeal.ConvValue

open Idealize.ShloMosaic Cert.ReferenceIdeal Cert.ReferenceIdeal.Read Cert.Conv

/-- The reference's padded image, at an index. -/
theorem pad_apply (X : Img) (b : Fin 2) (c : Fin 96) (h w : Fin 386) :
    val_main_v0 (F := Ideal) X (ix4 b c h w) = padded X b c h.val w.val := by
  pointwise [val_main_v0, val_main_call0_v0, val_main_c]
  by_cases hw : (1 ≤ h.val ∧ h.val < 385) ∧ (1 ≤ w.val ∧ w.val < 385)
  · rw [dif_pos (by omega), padded_inside X b c _ _ ⟨h.val - 1, by omega⟩ ⟨w.val - 1, by omega⟩
      (show h.val = h.val - 1 + 1 by omega) (show w.val = w.val - 1 + 1 by omega)]
  · rw [dif_neg (by omega), padded_outside X b c _ _ (by omega)]
    exact sitofp_zero (φ := .f32)

/-- The reference's result is the masked convolution of its arguments. -/
theorem value_eq (X : Img) (M : Mask) (Wt : Filt) (Bs : Bias) :
    val_main_v53 (F := Ideal) X M Wt Bs = masked X M Wt Bs := by
  funext j
  idx_vars j
  pointwise [val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_cst]
  simp only [pad_apply, Nat.add_comm 1, Nat.add_comm 2]
  rfl

end Cert.ReferenceIdeal.ConvValue
end
-- ==== Proof.lean ====
/-
  The proof of `Cert.Claim`: the three frames, the kernel's preservation by its ideal form, and the equality of the kernel
  and the reference over the extended reals. The mathematics is in Proof/Conv.lean; what the kernel's body computes is in
  Proof/Payload.lean and Proof/Scratch.lean, its blocks and its array in Proof/Blocks.lean and Proof/KernelValue.lean, and
  the reference's value in Proof/RefValue.lean. This module assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The printed kernel runs to its end from any memory, changes no argument and leaves every semaphore at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference over the extended reals. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals the kernel and the reference, given the same arguments, end with the same array: the masked
    convolution of those arguments. -/
theorem algebraic : Cert.algebraic_KernelIdeal_ReferenceIdeal := by
  intro m ρ m' ρ' _ hagree
  refine ⟨fun c => Cert.Conv.masked (Cert.KernelIdeal.ConvValue.argX m c) (Cert.KernelIdeal.ConvValue.argM m c)
    (Cert.KernelIdeal.ConvValue.argW m c) (Cert.KernelIdeal.ConvValue.argB m c), ?_, ?_⟩
  · exact (θ_run Cert.KernelIdeal.defs _ _).mono
      (fun _ h c => ⟨(h c).1.trans (Cert.KernelIdeal.ConvValue.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hagree c
    rw [Cert.ReferenceIdeal.Read.val_main_v53_eq, h0, h1, h2, h3]
    exact Cert.ReferenceIdeal.ConvValue.value_eq _ _ _ _

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
